-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_weights [hPre_finite_weights : Cert.Pre_finite_weights.Facts] (m : (ℓ : Loc Cert.KernelIdeal.nD Cert.KernelIdeal.τ Cert.KernelIdeal.sig) → Buf (Elt Ideal) ℓ) : Prop :=
  ∀ c : Dev Cert.KernelIdeal.nD,
    (Cert.Pre_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_weights [hPre_finite_weights : Cert.Pre_finite_weights.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_weights [hKernelIdeal : Cert.KernelIdeal.Facts] [hPre_finite_weights : Cert.Pre_finite_weights.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_weights m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_weights [hReferenceIdeal : Cert.ReferenceIdeal.Facts] [hPre_finite_weights : Cert.Pre_finite_weights.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_weights m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_weights [hKernelIdeal : Cert.KernelIdeal.Facts] [hReferenceIdeal : Cert.ReferenceIdeal.Facts] [hPre_finite_weights : Cert.Pre_finite_weights.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_weights m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)) (v5 : (c : Dev Cert.KernelIdeal.nD) → Buf (Elt Ideal) ((c.tc : Thread Cert.KernelIdeal.nD Cert.KernelIdeal.τ).loc Cert.KernelIdeal.main_v2_5)) (v6 : (c : Dev Cert.KernelIdeal.nD) → Buf (Elt Ideal) ((c.tc : Thread Cert.KernelIdeal.nD Cert.KernelIdeal.τ).loc Cert.KernelIdeal.main_v2_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_v2_5) = v5 c
          ∧ r.2.mem ((c.tc : Thread Cert.KernelIdeal.nD Cert.KernelIdeal.τ).loc Cert.KernelIdeal.main_v2_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_v0_5) = v5 c
          ∧ r.2.mem ((c.tc : Thread Cert.ReferenceIdeal.nD Cert.ReferenceIdeal.τ).loc Cert.ReferenceIdeal.main_v0_6) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_weights : Cert.Pre_finite_weights.Facts),
    quiescent_Kernel (hKernel := hKernel)
    ∧ quiescent_KernelIdeal (hKernelIdeal := hKernelIdeal)
    ∧ quiescent_KernelIdeal_pre_finite_weights (hKernelIdeal := hKernelIdeal) (hPre_finite_weights := hPre_finite_weights)
    ∧ quiescent_ReferenceIdeal (hReferenceIdeal := hReferenceIdeal)
    ∧ quiescent_ReferenceIdeal_pre_finite_weights (hReferenceIdeal := hReferenceIdeal) (hPre_finite_weights := hPre_finite_weights)
    ∧ preserves_Kernel_KernelIdeal
    ∧ algebraic_KernelIdeal_ReferenceIdeal_pre_finite_weights (hKernelIdeal := hKernelIdeal) (hReferenceIdeal := hReferenceIdeal) (hPre_finite_weights := hPre_finite_weights)
-- ==== Pre_finite_weights.lean ====
abbrev S3x1024x5120 : Shape := ⟨3, ![3, 1024, 5120]⟩
abbrev S5120 : Shape := ⟨1, ![5120]⟩
abbrev S6448x5120 : Shape := ⟨2, ![6448, 5120]⟩
abbrev S6448 : Shape := ⟨1, ![6448]⟩
abbrev S_ : Shape := ⟨0, ![]⟩

class Facts : Prop where
  bcast_S_S5120 : S_.BroadcastsInDim S5120 (![] : Fin 0 → Fin S5120.rank)

variable [Facts]

def fn {F : FTy → Type} [FloatOps F] (main_arg0 : FVec F S3x1024x5120 .bf16) (main_arg1 : FVec F S5120 .f32) (main_arg2 : FVec F S6448x5120 .fp8e4m3) (main_arg3 : FVec F S6448 .f32) : IVec S5120 1 :=
  let main_v0 : FVec F S5120 .f32 := Host.absf main_arg1
  let main_cst : FVec F S_ .f32 := constant S_ .f32 0x7F7FFFFF#32
  let main_v1 : FVec F S5120 .f32 := broadcastInDim S5120 ![] bcast_S_S5120 main_cst
  let main_v2 : IVec S5120 1 := cmpf .ole main_v0 main_v1
  main_v2
-- ==== Kernel.lean ====
abbrev S3x1024x5120 : Shape := ⟨3, ![3, 1024, 5120]⟩
abbrev S5120 : Shape := ⟨1, ![5120]⟩
abbrev S6448x5120 : Shape := ⟨2, ![6448, 5120]⟩
abbrev S6448 : Shape := ⟨1, ![6448]⟩
abbrev S1x5120 : Shape := ⟨2, ![1, 5120]⟩
abbrev S1x6448 : Shape := ⟨2, ![1, 6448]⟩
abbrev S3x1024x3072 : Shape := ⟨3, ![3, 1024, 3072]⟩
abbrev S3x1024x128 : Shape := ⟨3, ![3, 1024, 128]⟩
abbrev S3x1024x48 : Shape := ⟨3, ![3, 1024, 48]⟩
abbrev S3x1x1024 : Shape := ⟨3, ![3, 1, 1024]⟩
abbrev S1x256x5120 : Shape := ⟨3, ![1, 256, 5120]⟩
abbrev S1x256x3072 : Shape := ⟨3, ![1, 256, 3072]⟩
abbrev S1x256x128 : Shape := ⟨3, ![1, 256, 128]⟩
abbrev S1x256x48 : Shape := ⟨3, ![1, 256, 48]⟩
abbrev S1x1x256 : Shape := ⟨3, ![1, 1, 256]⟩
abbrev S256x5120 : Shape := ⟨2, ![256, 5120]⟩
abbrev S256 : Shape := ⟨1, ![256]⟩
abbrev S256x1 : Shape := ⟨2, ![256, 1]⟩
abbrev S256x128 : Shape := ⟨2, ![256, 128]⟩
abbrev S128x256 : Shape := ⟨2, ![128, 256]⟩
abbrev S1x256 : Shape := ⟨2, ![1, 256]⟩
abbrev S256x6448 : Shape := ⟨2, ![256, 6448]⟩
abbrev S256x3072 : Shape := ⟨2, ![256, 3072]⟩
abbrev S256x48 : Shape := ⟨2, ![256, 48]⟩

abbrev nBuf : Space → Nat
  | .hbm => 13
  | .vmem => 19
  | .smem => 0
  | _ => 0

abbrev bufTy : (tb : Table) → Fin (tcTables nBuf tb) → BufTy
  | .hbm, ⟨0, _⟩ => ⟨S3x1024x5120, .bf16⟩
  | .hbm, ⟨1, _⟩ => ⟨S5120, .f32⟩
  | .hbm, ⟨2, _⟩ => ⟨S6448x5120, .fp8e4m3⟩
  | .hbm, ⟨3, _⟩ => ⟨S6448, .f32⟩
  | .hbm, ⟨4, _⟩ => ⟨S1x5120, .f32⟩
  | .hbm, ⟨5, _⟩ => ⟨S1x6448, .f32⟩
  | .hbm, ⟨6, _⟩ => ⟨S3x1024x3072, .bf16⟩
  | .hbm, ⟨7, _⟩ => ⟨S3x1024x3072, .bf16⟩
  | .hbm, ⟨8, _⟩ => ⟨S3x1024x128, .bf16⟩
  | .hbm, ⟨9, _⟩ => ⟨S3x1024x128, .bf16⟩
  | .hbm, ⟨10, _⟩ => ⟨S3x1024x48, .bf16⟩
  | .hbm, ⟨11, _⟩ => ⟨S3x1024x5120, .fp8e4m3⟩
  | .hbm, ⟨12, _⟩ => ⟨S3x1x1024, .f32⟩
  | .local _ .vmem, ⟨0, _⟩ => ⟨S1x256x5120, .bf16⟩
  | .local _ .vmem, ⟨1, _⟩ => ⟨S1x256x5120, .bf16⟩
  | .local _ .vmem, ⟨2, _⟩ => ⟨S1x5120, .f32⟩
  | .local _ .vmem, ⟨3, _⟩ => ⟨S6448x5120, .fp8e4m3⟩
  | .local _ .vmem, ⟨4, _⟩ => ⟨S1x6448, .f32⟩
  | .local _ .vmem, ⟨5, _⟩ => ⟨S1x256x3072, .bf16⟩
  | .local _ .vmem, ⟨6, _⟩ => ⟨S1x256x3072, .bf16⟩
  | .local _ .vmem, ⟨7, _⟩ => ⟨S1x256x3072, .bf16⟩
  | .local _ .vmem, ⟨8, _⟩ => ⟨S1x256x3072, .bf16⟩
  | .local _ .vmem, ⟨9, _⟩ => ⟨S1x256x128, .bf16⟩
  | .local _ .vmem, ⟨10, _⟩ => ⟨S1x256x128, .bf16⟩
  | .local _ .vmem, ⟨11, _⟩ => ⟨S1x256x128, .bf16⟩
  | .local _ .vmem, ⟨12, _⟩ => ⟨S1x256x128, .bf16⟩
  | .local _ .vmem, ⟨13, _⟩ => ⟨S1x256x48, .bf16⟩
  | .local _ .vmem, ⟨14, _⟩ => ⟨S1x256x48, .bf16⟩
  | .local _ .vmem, ⟨15, _⟩ => ⟨S1x256x5120, .fp8e4m3⟩
  | .local _ .vmem, ⟨16, _⟩ => ⟨S1x256x5120, .fp8e4m3⟩
  | .local _ .vmem, ⟨17, _⟩ => ⟨S1x1x256, .f32⟩
  | .local _ .vmem, ⟨18, _⟩ => ⟨S1x1x256, .f32⟩
  | _, _ => ⟨S3x1024x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v2_4 : Ref sig .tc := ⟨.hbm, 10, rfl⟩
abbrev main_v2_5 : Ref sig .tc := ⟨.hbm, 11, rfl⟩
abbrev main_v2_6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![12], ![false]⟩

def cc0_transform_0 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_5 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_6 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_7 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_8 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_9 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_10 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S1x256x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x5120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S6448x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x6448 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x256x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x48 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x5120 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S3x1024x5120 : Shape := ⟨3, ![3, 1024, 5120]⟩
abbrev S5120 : Shape := ⟨1, ![5120]⟩
abbrev S6448x5120 : Shape := ⟨2, ![6448, 5120]⟩
abbrev S6448 : Shape := ⟨1, ![6448]⟩
abbrev S3x1024x3072 : Shape := ⟨3, ![3, 1024, 3072]⟩
abbrev S3x1024x128 : Shape := ⟨3, ![3, 1024, 128]⟩
abbrev S3x1024x48 : Shape := ⟨3, ![3, 1024, 48]⟩
abbrev S3x1x1024 : Shape := ⟨3, ![3, 1, 1024]⟩
abbrev S3x1024 : Shape := ⟨2, ![3, 1024]⟩
abbrev S3x1024x1 : Shape := ⟨3, ![3, 1024, 1]⟩
abbrev S1x1x5120 : Shape := ⟨3, ![1, 1, 5120]⟩
abbrev S3x1024x254 : Shape := ⟨3, ![3, 1024, 254]⟩
abbrev S3x1024x6448 : Shape := ⟨3, ![3, 1024, 6448]⟩
abbrev S1x1x6448 : Shape := ⟨3, ![1, 1, 6448]⟩

abbrev nBuf : Space → Nat
  | .hbm => 11
  | .vmem => 11
  | .smem => 0
  | _ => 0

abbrev bufTy : (tb : Table) → Fin (tcTables nBuf tb) → BufTy
  | .hbm, ⟨0, _⟩ => ⟨S3x1024x5120, .bf16⟩
  | .hbm, ⟨1, _⟩ => ⟨S5120, .f32⟩
  | .hbm, ⟨2, _⟩ => ⟨S6448x5120, .fp8e4m3⟩
  | .hbm, ⟨3, _⟩ => ⟨S6448, .f32⟩
  | .hbm, ⟨4, _⟩ => ⟨S3x1024x3072, .bf16⟩
  | .hbm, ⟨5, _⟩ => ⟨S3x1024x3072, .bf16⟩
  | .hbm, ⟨6, _⟩ => ⟨S3x1024x128, .bf16⟩
  | .hbm, ⟨7, _⟩ => ⟨S3x1024x128, .bf16⟩
  | .hbm, ⟨8, _⟩ => ⟨S3x1024x48, .bf16⟩
  | .hbm, ⟨9, _⟩ => ⟨S3x1024x5120, .fp8e4m3⟩
  | .hbm, ⟨10, _⟩ => ⟨S3x1x1024, .f32⟩
  | .local _ .vmem, ⟨0, _⟩ => ⟨S3x1024x5120, .bf16⟩
  | .local _ .vmem, ⟨1, _⟩ => ⟨S5120, .f32⟩
  | .local _ .vmem, ⟨2, _⟩ => ⟨S6448x5120, .fp8e4m3⟩
  | .local _ .vmem, ⟨3, _⟩ => ⟨S6448, .f32⟩
  | .local _ .vmem, ⟨4, _⟩ => ⟨S3x1024x3072, .bf16⟩
  | .local _ .vmem, ⟨5, _⟩ => ⟨S3x1024x3072, .bf16⟩
  | .local _ .vmem, ⟨6, _⟩ => ⟨S3x1024x128, .bf16⟩
  | .local _ .vmem, ⟨7, _⟩ => ⟨S3x1024x128, .bf16⟩
  | .local _ .vmem, ⟨8, _⟩ => ⟨S3x1024x48, .bf16⟩
  | .local _ .vmem, ⟨9, _⟩ => ⟨S3x1024x5120, .fp8e4m3⟩
  | .local _ .vmem, ⟨10, _⟩ => ⟨S3x1x1024, .f32⟩
  | _, _ => ⟨S3x1024x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev main_v0_5 : Ref sig .tc := ⟨.hbm, 9, rfl⟩
abbrev main_v0_6 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S3x1024x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6448x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6448 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3x1024x48 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S3x1024x5120 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S3x1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Row.lean ====
/-
  One token's row of the projection at the idealized reading (floats are extended reals): the normalised row, its
  largest magnitude, and the row's power-of-two scale and inverse scale as the kernel and as the reference form them.
-/
module

public import Idealize.ShloMosaic.Lib.Pointwise

@[expose] public section

noncomputable section

namespace Cert.Row

open Idealize.ShloMosaic Idealize.SL.Sem

/-- The RMS-normalised row, scaled by the norm weight. -/
def rowH (x w : Fin 5120 → EReal) (j : Fin 5120) : EReal :=
  x j * Ideal.rsqrt (Ideal.div (∑ k, x k * x k) (Ideal.ofBits .f32 0x45A00000#32) + Ideal.ofBits .f32 0x3727C5AC#32) * w j

/-- The largest magnitude in the normalised row. -/
def rowA (x w : Fin 5120 → EReal) : EReal :=
  Finset.univ.fold max (Ideal.ofBits .f32 0xFF800000#32) fun j => max (rowH x w j) (-(rowH x w j))

/-- The f32 constant nearest 1 / 448. -/
def recip448 : EReal := Ideal.ofBits .f32 0x3B124925#32

/-- The float whose word is `b` shifted into the exponent field. -/
def word (b : BitVec 32) : EReal := Ideal.ofBits .f32 (IntOp.shli .vector b 23#32)

/-- One step of the kernel's search: add `k` to the biased exponent `b` unless that passes `m`. -/
def step (m : EReal) (b k : BitVec 32) : BitVec 32 := if m < word (IntOp.addi b k) then b else IntOp.addi b k

/-- The first two steps of the search. -/
def biasedHigh (m : EReal) : BitVec 32 := step m (step m 0#32 128#32) 64#32

/-- The next five steps of the search, from `b`. -/
def biasedMid (m : EReal) (b : BitVec 32) : BitVec 32 :=
  step m (step m (step m (step m (step m b 32#32) 16#32) 8#32) 4#32) 2#32

/-- The biased exponent field of `m`, by the kernel's eight steps. -/
def biased (m : EReal) : BitVec 32 := step m (biasedMid m (biasedHigh m)) 1#32

/-- The kernel's exponent, from the row's largest magnitude `a`. -/
def kexp (a : EReal) : BitVec 32 := if a = 0 then 0#32 else IntOp.subi (biased (a * recip448)) 126#32

/-- The kernel's scale. -/
def kscale (a : EReal) : EReal := word (IntOp.addi (kexp a) 127#32)

/-- The kernel's inverse scale. -/
def kinv (a : EReal) : EReal := word (IntOp.subi 127#32 (kexp a))

/-- The reference's exponent: the least listed exponent whose power of two is above `a / 448`, and 0 for a zero row. -/
def rexp (a : EReal) : EReal :=
  if a = 0 then 0 else Finset.univ.fold min (Ideal.ofBits .f32 0x7F800000#32) fun k : Fin 254 =>
    if a * recip448 < Ideal.exp2 (((IntOp.subi (BitVec.ofNat 32 k) 126#32).toInt : ℝ) : EReal)
    then (((IntOp.subi (BitVec.ofNat 32 k) 126#32).toInt : ℝ) : EReal) else Ideal.ofBits .f32 0x7F800000#32

/-- One quantised entry: the row entry times the inverse scale, clipped to the fp8 range. -/
def clip (v : EReal) : EReal := min (Ideal.ofBits .f32 0x43E00000#32) (max (Ideal.ofBits .f32 0xC3E00000#32) v)

/-- The quantised row, under the inverse scale `inv`. -/
def rowCode (inv : EReal) (x w : Fin 5120 → EReal) (j : Fin 5120) : EReal := clip (rowH x w j * inv)

/-- One output channel of the row: the quantised row against the channel's weights `p`, then the row's scale, then the
    channel's scale `s`. -/
def rowProj (inv scale : EReal) (x w p : Fin 5120 → EReal) (s : EReal) : EReal := (∑ k, rowCode inv x w k * p k) * scale * s

end Cert.Row

end
-- ==== Proof.RefBlock.lean ====
/-
  What the reference computes at the idealized reading, entry by entry, as a function of one row of the hidden states,
  the norm weight, one row of the projection and its scale.
-/
module

public import proofs.«01_k».proof.Proof.Gen.ReferenceIdeal.Skeleton
public import Idealize.ShloMosaic.Lib.Pointwise
public import proofs.«01_k».proof.Proof.Row

@[expose] public section

set_option maxRecDepth 16384

noncomputable section

open Idealize.ShloMosaic Idealize.ShloMosaic.TcCoe Idealize.SL.Sem

namespace Cert.ReferenceIdeal.Whole

open Cert.ReferenceIdeal Cert.ReferenceIdeal.Gen Cert.Row

/-- The normalised rows, at one entry. -/
theorem h_at (u : Vec Ideal S3x1024x5120 .bf16) (w : Vec Ideal S5120 .f32) (b : Fin 3) (r : Fin 1024) (j : Fin 5120) :
    k0_pay1 (F := Ideal) u w (ix3 b r j) = rowH (fun k => u (ix3 b r k)) (fun k => w (ix1 k)) j := by
  pointwise [k0_pay1]
  unfold rowH
  with_reducible rfl

/-- The row maximum, kept as a column, at one row. -/
theorem max_at (v : FVec Ideal S3x1024x5120 .f32) (b : Fin 3) (r : Fin 1024) :
    shapeCast S3x1024x1 (multiReduction .maximumf [2] S3x1024 v 0xFF800000#32 reduces_S3x1024x5120_S3x1024 (.inl rfl) rfl) shapeCasts_S3x1024_S3x1024x1 (ix3 b r 0)
      = Finset.univ.fold max (Ideal.ofBits .f32 0xFF800000#32) fun j : Fin 5120 => v (ix3 b r j) := by
  pointwise

/-- The magnitude, at one entry. -/
theorem abs_at {s : Shape} (v : FVec Ideal s .f32) (i : s.Idx) : absf v i = max (v i) (-(v i)) := by
  pointwise
  rfl

/-- The largest magnitude of each row, as a column. -/
def colA (h : FVec Ideal S3x1024x5120 .f32) : FVec Ideal S3x1024x1 .f32 :=
  shapeCast S3x1024x1 (multiReduction .maximumf [2] S3x1024 (absf h) 0xFF800000#32 reduces_S3x1024x5120_S3x1024 (.inl rfl) rfl) shapeCasts_S3x1024_S3x1024x1

/-- The largest magnitude of a row. -/
theorem a_at (u : Vec Ideal S3x1024x5120 .bf16) (w : Vec Ideal S5120 .f32) (b : Fin 3) (r : Fin 1024) :
    colA (k0_pay1 (F := Ideal) u w) (ix3 b r 0) = rowA (fun k => u (ix3 b r k)) (fun k => w (ix1 k)) := by
  unfold rowA
  simp only [← h_at]
  generalize k0_pay1 (F := Ideal) u w = v
  refine (max_at _ b r).trans ?_
  simp only [abs_at]

/-- The least listed exponent whose power of two is above the column `v`, as a column. -/
def colE (v : FVec Ideal S3x1024x1 .f32) : FVec Ideal S3x1024x1 .f32 :=
  let e : FVec Ideal S3x1024x254 .f32 := sitofp .f32 (subi (iota .tc S3x1024x254 32 [2] iota_S3x1024x254_d2_w32) (broadcast S3x1024x254 126#32))
  shapeCast S3x1024x1 (multiReduction .minimumf [2] S3x1024
    (select (cmpf .olt (broadcastTo S3x1024x254 v broadcasts_S3x1024x1_S3x1024x254) (exp2 e)) e (broadcast S3x1024x254 (Scalar.ofBits .f32 0x7F800000#32)))
    0x7F800000#32 reduces_S3x1024x254_S3x1024 (.inl rfl) rfl) shapeCasts_S3x1024_S3x1024x1

/-- The least listed exponent, at one row. -/
theorem least_at (v : FVec Ideal S3x1024x1 .f32) (b : Fin 3) (r : Fin 1024) :
    colE v (ix3 b r 0) = Finset.univ.fold min (Ideal.ofBits .f32 0x7F800000#32) fun k : Fin 254 =>
      if v (ix3 b r 0) < Ideal.exp2 (((IntOp.subi (BitVec.ofNat 32 k) 126#32).toInt : ℝ) : EReal)
      then (((IntOp.subi (BitVec.ofNat 32 k) 126#32).toInt : ℝ) : EReal) else Ideal.ofBits .f32 0x7F800000#32 := by
  unfold colE
  dsimp only
  pointwise
  rfl

/-- The choice of exponent 0 for a zero row, at one row. -/
theorem sel_at (a x : FVec Ideal S3x1024x1 .f32) (i : S3x1024x1.Idx) :
    select (cmpf .oeq a (broadcast S3x1024x1 (Scalar.ofBits .f32 0x00000000#32))) (broadcast S3x1024x1 (Scalar.ofBits .f32 0x00000000#32)) x i
      = (if a i = 0 then 0 else x i : EReal) := by
  pointwise

/-- A vector times a splat, at one entry. -/
theorem mulc_at {s : Shape} (v : FVec Ideal s .f32) (c : EReal) (i : s.Idx) :
    mulf v (broadcast s (α := Ideal .f32) c) i = v i * c := rfl

/-- The choice of exponent from the column of largest magnitudes, as a column. -/
def colX (a : FVec Ideal S3x1024x1 .f32) : FVec Ideal S3x1024x1 .f32 :=
  select (cmpf .oeq a (broadcast S3x1024x1 (Scalar.ofBits .f32 0x00000000#32))) (broadcast S3x1024x1 (Scalar.ofBits .f32 0x00000000#32))
    (colE (mulf a (broadcast S3x1024x1 (Scalar.ofBits .f32 0x3B124925#32))))

/-- The choice of exponent, at one row. -/
theorem colX_at (a : FVec Ideal S3x1024x1 .f32) (b : Fin 3) (r : Fin 1024) : colX a (ix3 b r 0) = rexp (a (ix3 b r 0)) := by
  unfold colX
  refine (sel_at _ _ _).trans ?_
  rw [least_at]
  generalize hm : mulf a (broadcast S3x1024x1 (Scalar.ofBits .f32 0x3B124925#32)) (ix3 b r 0) = m
  have hm' : m = a (ix3 b r 0) * recip448 := hm.symm.trans (mulc_at a recip448 _)
  rw [hm']
  unfold rexp
  with_reducible rfl

/-- The reference's exponents are that choice, made on the normalised rows. -/
theorem pay2_eq (u : Vec Ideal S3x1024x5120 .bf16) (w : Vec Ideal S5120 .f32) :
    k0_pay2 (F := Ideal) u w = colX (colA (k0_pay1 (F := Ideal) u w)) := by
  unfold k0_pay2
  generalize k0_pay1 (F := Ideal) u w = h
  unfold colX colE colA
  with_reducible rfl

/-- The reference's exponent, at one row. -/
theorem rexp_at (u : Vec Ideal S3x1024x5120 .bf16) (w : Vec Ideal S5120 .f32) (b : Fin 3) (r : Fin 1024) :
    k0_pay2 (F := Ideal) u w (ix3 b r 0) = rexp (rowA (fun k => u (ix3 b r k)) (fun k => w (ix1 k))) := by
  rw [pay2_eq u w, colX_at, a_at]

/-- Two to a vector, at one entry. -/
theorem exp2_at {s : Shape} (e : FVec Ideal s .f32) (i : s.Idx) : exp2 e i = Ideal.exp2 (e i) := rfl

/-- The scale, at one row. -/
theorem scale_at (u : Vec Ideal S3x1024x5120 .bf16) (w : Vec Ideal S5120 .f32) (b : Fin 3) (r : Fin 1024) :
    k0_pay3 (F := Ideal) u w (ix3 b r 0) = Ideal.exp2 (rexp (rowA (fun k => u (ix3 b r k)) (fun k => w (ix1 k)))) := by
  rw [← rexp_at u w b r]
  unfold k0_pay3
  exact exp2_at _ _

/-- Two to the negated exponent, at one row. -/
theorem exp2neg_at (e : FVec Ideal S3x1024x1 .f32) (i : S3x1024x1.Idx) :
    exp2 (subf (broadcast S3x1024x1 (Scalar.ofBits .f32 0x00000000#32 : Ideal .f32)) e) i = Ideal.exp2 (Ideal.ofBits .f32 0#32 - e i) := rfl

/-- The rows times a column, at one entry. -/
theorem mulb_at (e : FVec Ideal S3x1024x1 .f32) (h : FVec Ideal S3x1024x5120 .f32) (b : Fin 3) (r : Fin 1024) (j : Fin 5120) :
    mulf h (broadcastTo S3x1024x5120 e broadcasts_S3x1024x1_S3x1024x5120) (ix3 b r j) = h (ix3 b r j) * e (ix3 b r 0) := by
  pointwise

/-- The rows times their inverse scale, at one entry. -/
theorem scaled_at (u : Vec Ideal S3x1024x5120 .bf16) (w : Vec Ideal S5120 .f32) (b : Fin 3) (r : Fin 1024) (j : Fin 5120) :
    k0_pay4 (F := Ideal) u w (ix3 b r j)
      = (rowH (fun k => u (ix3 b r k)) (fun k => w (ix1 k)) j
          * Ideal.exp2 (Ideal.ofBits .f32 0#32 - rexp (rowA (fun k => u (ix3 b r k)) (fun k => w (ix1 k)))) : EReal) := by
  rw [← rexp_at u w b r, ← h_at u w b r j]
  unfold k0_pay4
  generalize k0_pay2 (F := Ideal) u w = e
  generalize k0_pay1 (F := Ideal) u w = h
  refine (mulb_at _ h b r j).trans ?_
  rw [exp2neg_at]

/-- The clipped codes, from the scaled rows, at one entry. -/
theorem clip_at (v41 : FVec Ideal S3x1024x5120 .f32) (i : S3x1024x5120.Idx) :
    k0_pay6 (F := Ideal) v41 (Scalar.ofBits .f32 0x43E00000#32) k0_pay5 i = clip (v41 i) := by
  pointwise [k0_pay6, k0_pay5]
  rfl

section
variable (u : Vec Ideal S3x1024x5120 .bf16) (w : Vec Ideal S5120 .f32) (p : Vec Ideal S6448x5120 .fp8e4m3) (s : Vec Ideal S6448 .f32)

/-- The inverse scale of a row. -/
def inv (b : Fin 3) (r : Fin 1024) : EReal := Ideal.exp2 (Ideal.ofBits .f32 0#32 - rexp (rowA (fun k => u (ix3 b r k)) (fun k => w (ix1 k))))

/-- The scale of a row. -/
def scale (b : Fin 3) (r : Fin 1024) : EReal := Ideal.exp2 (rexp (rowA (fun k => u (ix3 b r k)) (fun k => w (ix1 k))))

/-- The quantised rows, at one entry. -/
theorem codes_at (b : Fin 3) (r : Fin 1024) (j : Fin 5120) :
    k0_pay6 (F := Ideal) (k0_pay4 u w) (Scalar.ofBits .f32 0x43E00000#32) k0_pay5 (ix3 b r j)
      = rowCode (inv u w b r) (fun k => u (ix3 b r k)) (fun k => w (ix1 k)) j := by
  rw [clip_at, scaled_at]
  rfl

/-- The stored scales, at one row. -/
theorem scales_at (b : Fin 3) (r : Fin 1024) : k0_pay13 (F := Ideal) (k0_pay3 u w) (ix3 b 0 r) = scale u w b r := by
  unfold scale
  rw [← scale_at u w b r]
  generalize k0_pay3 (F := Ideal) u w = v
  pointwise [k0_pay13]

/-- One channel of a row. -/
def chan (b : Fin 3) (r : Fin 1024) (i : Fin 6448) : EReal :=
  rowProj (inv u w b r) (scale u w b r) (fun k => u (ix3 b r k)) (fun k => w (ix1 k)) (fun k => p (ix2 i k)) (s (ix1 i))

/-- The `z` slice of the projection, from the scale and the codes, at one entry. -/
theorem z_of (v36 : FVec Ideal S3x1024x1 .f32) (v41 v42 : FVec Ideal S3x1024x5120 .f32) (c : Ideal .f32) (b : Fin 3) (r : Fin 1024) (j : Fin 3072) :
    k0_pay8 (F := Ideal) v36 v41 c v42 p s (ix3 b r j)
      = ((∑ k, k0_pay6 (F := Ideal) v41 c v42 (ix3 b r k) * p (ix2 ⟨j, by omega⟩ k)) * v36 (ix3 b r 0) * s (ix1 ⟨j, by omega⟩) : EReal) := by
  pointwise [k0_pay7, k0_pay8]

/-- The `z` result, at one entry. -/
theorem z_at (b : Fin 3) (r : Fin 1024) (j : Fin 3072) :
    k0_pay8 (F := Ideal) (k0_pay3 u w) (k0_pay4 u w) (Scalar.ofBits .f32 0x43E00000#32) k0_pay5 p s (ix3 b r j) = chan u w p s b r ⟨j, by omega⟩ := by
  rw [z_of]
  simp only [codes_at, scale_at]
  rfl

/-- The `x` slice of the projection, from the scale and the codes, at one entry. -/
theorem x_of (v36 : FVec Ideal S3x1024x1 .f32) (v41 v42 : FVec Ideal S3x1024x5120 .f32) (c : Ideal .f32) (b : Fin 3) (r : Fin 1024) (j : Fin 3072) :
    k0_pay9 (F := Ideal) v36 v41 c v42 p s (ix3 b r j)
      = ((∑ k, k0_pay6 (F := Ideal) v41 c v42 (ix3 b r k) * p (ix2 ⟨3072 + j, by omega⟩ k)) * v36 (ix3 b r 0) * s (ix1 ⟨3072 + j, by omega⟩) : EReal) := by
  pointwise [k0_pay7, k0_pay9]

/-- The `x` result, at one entry. -/
theorem x_at (b : Fin 3) (r : Fin 1024) (j : Fin 3072) :
    k0_pay9 (F := Ideal) (k0_pay3 u w) (k0_pay4 u w) (Scalar.ofBits .f32 0x43E00000#32) k0_pay5 p s (ix3 b r j) = chan u w p s b r ⟨3072 + j, by omega⟩ := by
  rw [x_of]
  simp only [codes_at, scale_at]
  rfl

/-- The `b` slice of the projection, from the scale and the codes, at one entry. -/
theorem b_of (v36 : FVec Ideal S3x1024x1 .f32) (v41 v42 : FVec Ideal S3x1024x5120 .f32) (c : Ideal .f32) (b : Fin 3) (r : Fin 1024) (j : Fin 128) :
    k0_pay10 (F := Ideal) v36 v41 c v42 p s (ix3 b r j)
      = ((∑ k, k0_pay6 (F := Ideal) v41 c v42 (ix3 b r k) * p (ix2 ⟨6144 + j, by omega⟩ k)) * v36 (ix3 b r 0) * s (ix1 ⟨6144 + j, by omega⟩) : EReal) := by
  pointwise [k0_pay7, k0_pay10]

/-- The `b` result, at one entry. -/
theorem b_at (b : Fin 3) (r : Fin 1024) (j : Fin 128) :
    k0_pay10 (F := Ideal) (k0_pay3 u w) (k0_pay4 u w) (Scalar.ofBits .f32 0x43E00000#32) k0_pay5 p s (ix3 b r j) = chan u w p s b r ⟨6144 + j, by omega⟩ := by
  rw [b_of]
  simp only [codes_at, scale_at]
  rfl

/-- The `c` slice of the projection, from the scale and the codes, at one entry. -/
theorem c_of (v36 : FVec Ideal S3x1024x1 .f32) (v41 v42 : FVec Ideal S3x1024x5120 .f32) (c : Ideal .f32) (b : Fin 3) (r : Fin 1024) (j : Fin 128) :
    k0_pay11 (F := Ideal) v36 v41 c v42 p s (ix3 b r j)
      = ((∑ k, k0_pay6 (F := Ideal) v41 c v42 (ix3 b r k) * p (ix2 ⟨6272 + j, by omega⟩ k)) * v36 (ix3 b r 0) * s (ix1 ⟨6272 + j, by omega⟩) : EReal) := by
  pointwise [k0_pay7, k0_pay11]

/-- The `c` result, at one entry. -/
theorem c_at (b : Fin 3) (r : Fin 1024) (j : Fin 128) :
    k0_pay11 (F := Ideal) (k0_pay3 u w) (k0_pay4 u w) (Scalar.ofBits .f32 0x43E00000#32) k0_pay5 p s (ix3 b r j) = chan u w p s b r ⟨6272 + j, by omega⟩ := by
  rw [c_of]
  simp only [codes_at, scale_at]
  rfl

/-- The `dt` slice of the projection, from the scale and the codes, at one entry. -/
theorem dt_of (v36 : FVec Ideal S3x1024x1 .f32) (v41 v42 : FVec Ideal S3x1024x5120 .f32) (c : Ideal .f32) (b : Fin 3) (r : Fin 1024) (j : Fin 48) :
    k0_pay12 (F := Ideal) v36 v41 c v42 p s (ix3 b r j)
      = ((∑ k, k0_pay6 (F := Ideal) v41 c v42 (ix3 b r k) * p (ix2 ⟨6400 + j, by omega⟩ k)) * v36 (ix3 b r 0) * s (ix1 ⟨6400 + j, by omega⟩) : EReal) := by
  pointwise [k0_pay7, k0_pay12]

/-- The `dt` result, at one entry. -/
theorem dt_at (b : Fin 3) (r : Fin 1024) (j : Fin 48) :
    k0_pay12 (F := Ideal) (k0_pay3 u w) (k0_pay4 u w) (Scalar.ofBits .f32 0x43E00000#32) k0_pay5 p s (ix3 b r j) = chan u w p s b r ⟨6400 + j, by omega⟩ := by
  rw [dt_of]
  simp only [codes_at, scale_at]
  rfl

end

end Cert.ReferenceIdeal.Whole

end
-- ==== Proof.Exponent.lean ====
/-
  The kernel's search for the exponent field against the reference's search for the least exponent: below 2 ^ 126 the
  two scales and the two inverse scales are the same powers of two.
-/
module

public import proofs.«01_k».proof.Proof.Row

@[expose] public section

noncomputable section

namespace Cert.Row

open Idealize.ShloMosaic Idealize.SL.Sem

/-- The float whose exponent field is the number `n`. -/
def wordN (n : ℕ) : EReal := word (BitVec.ofNat 32 n)

/-- The fields of the word whose exponent field is `n`: sign clear, exponent `n`, fraction zero. -/
theorem word_fields : ∀ n : Fin 256,
    ((IntOp.shli .vector (BitVec.ofNat 32 n.val) 23#32).extractLsb' 31 1 == 1#1) = false
      ∧ ((IntOp.shli .vector (BitVec.ofNat 32 n.val) 23#32).extractLsb' 23 8).toNat = n.val
      ∧ ((IntOp.shli .vector (BitVec.ofNat 32 n.val) 23#32).extractLsb' 0 23).toNat = 0 := by
  decide +kernel

/-- A word with a clear sign, exponent field `n` from 1 to 254 and a zero fraction is `2 ^ (n - 127)`. -/
theorem ieee_power (b : BitVec 32) (n : ℕ) (h1 : n ≠ 0) (h2 : n ≠ 255) (hs : (b.extractLsb' 31 1 == 1#1) = false)
    (he : (b.extractLsb' 23 8).toNat = n) (hf : (b.extractLsb' 0 23).toNat = 0) :
    Ideal.ofBits .f32 b = (((2 : ℝ) ^ ((n : ℤ) - 127) : ℝ) : EReal) := by
  have key : ∀ (neg : Bool) (ex fr : ℕ), (b.extractLsb' 31 1 == 1#1) = neg → (b.extractLsb' 23 8).toNat = ex → (b.extractLsb' 0 23).toNat = fr →
      Ideal.ofBits .f32 b = if ex = 2 ^ 8 - 1 then (if fr = 0 then (if neg then ⊥ else ⊤) else ⊥)
        else if ex = 0 then (((if neg then (-1 : ℝ) else 1) * fr * (2 : ℝ) ^ (1 - (2 ^ (8 - 1) - 1) - (23 : ℕ) : ℤ) : ℝ) : EReal)
        else (((if neg then (-1 : ℝ) else 1) * (2 ^ 23 + fr : ℕ) * (2 : ℝ) ^ ((ex : ℤ) - (2 ^ (8 - 1) - 1) - (23 : ℕ)) : ℝ) : EReal) := by
    rintro _ _ _ rfl rfl rfl
    rfl
  rw [key _ _ _ hs he hf, if_neg (by norm_num; exact h2), if_neg h1]
  congr 1
  have h3 : (n : ℤ) - 127 = ((n : ℤ) - (2 ^ (8 - 1) - 1) - (23 : ℕ)) + 23 := by norm_num
  rw [h3, zpow_add₀ (by norm_num)]
  norm_num
  ring

/-- With exponent field `n` from 1 to 254 the float is `2 ^ (n - 127)`. -/
theorem wordN_eq (n : ℕ) (h1 : 1 ≤ n) (h2 : n ≤ 254) : wordN n = (((2 : ℝ) ^ ((n : ℤ) - 127) : ℝ) : EReal) :=
  have h := word_fields ⟨n, by omega⟩
  ieee_power _ n (by omega) (by omega) h.1 h.2.1 h.2.2

/-- A number field as a word. -/
theorem ofNat_add (n k : ℕ) : IntOp.addi (BitVec.ofNat 32 n) (BitVec.ofNat 32 k) = BitVec.ofNat 32 (n + k) :=
  (BitVec.ofNat_add n k).symm

/-- What the search knows of the exponent field `n` when the steps left sum below `k`: `m` is not below the power of two at
    `n` (unless `n` is 0), and it is below the one at `n + k` (unless that passes the field). -/
def Between (m : EReal) (n k : ℕ) : Prop := n + k ≤ 256 ∧ (n = 0 ∨ wordN n ≤ m) ∧ (n + k = 256 ∨ m < wordN (n + k))

/-- One step of the search halves what is not known. -/
theorem step_between (m : EReal) (n k : ℕ) (hk : 0 < k) (h : Between m n (2 * k)) :
    ∃ n', step m (BitVec.ofNat 32 n) (BitVec.ofNat 32 k) = BitVec.ofNat 32 n' ∧ Between m n' k := by
  obtain ⟨h1, h2, h3⟩ := h
  unfold step
  rw [ofNat_add]
  by_cases hm : m < wordN (n + k)
  · exact ⟨n, if_pos hm, by omega, h2, .inr hm⟩
  · refine ⟨n + k, if_neg hm, by omega, .inr (not_lt.mp hm), ?_⟩
    rwa [show n + k + k = n + 2 * k by ring]

/-- The search's result: an exponent field `n` whose power of two is not above `m`, and the next one's is. -/
theorem biased_between (m : EReal) : ∃ n, biased m = BitVec.ofNat 32 n ∧ Between m n 1 := by
  obtain ⟨n7, e7, h7⟩ := step_between m 0 128 (by norm_num) ⟨by norm_num, .inl rfl, .inl rfl⟩
  obtain ⟨n6, e6, h6⟩ := step_between m n7 64 (by norm_num) h7
  obtain ⟨n5, e5, h5⟩ := step_between m n6 32 (by norm_num) h6
  obtain ⟨n4, e4, h4⟩ := step_between m n5 16 (by norm_num) h5
  obtain ⟨n3, e3, h3⟩ := step_between m n4 8 (by norm_num) h4
  obtain ⟨n2, e2, h2⟩ := step_between m n3 4 (by norm_num) h3
  obtain ⟨n1, e1, h1⟩ := step_between m n2 2 (by norm_num) h2
  obtain ⟨n0, e0, h0⟩ := step_between m n1 1 (by norm_num) h1
  refine ⟨n0, ?_, h0⟩
  unfold biased biasedMid biasedHigh
  rw [e7, e6, e5, e4, e3, e2, e1, e0]

/-- The powers of two grow with the exponent field. -/
theorem wordN_mono {a b : ℕ} (ha : 1 ≤ a) (hab : a ≤ b) (hb : b ≤ 254) : wordN a ≤ wordN b := by
  rw [wordN_eq a ha (by omega), wordN_eq b (by omega) hb]
  exact EReal.coe_le_coe_iff.mpr (zpow_le_zpow_right₀ (by norm_num) (by omega))

/-- Below `2 ^ 126` the search ends at most at 252. -/
theorem biased_small (m : EReal) (hm : m < wordN 253) :
    ∃ n, n ≤ 252 ∧ biased m = BitVec.ofNat 32 n ∧ (n = 0 ∨ wordN n ≤ m) ∧ m < wordN (n + 1) := by
  obtain ⟨n, e, h1, h2, h3⟩ := biased_between m
  have hn : n ≤ 252 := by
    by_contra hc
    rcases h2 with h2 | h2
    · omega
    by_cases hn : n = 255
    · subst hn
      have hw : IntOp.shli .vector (BitVec.ofNat 32 255) 23#32 = 0x7F800000#32 := by decide +kernel
      have ht : wordN 255 = ⊤ := by
        unfold wordN word
        rw [hw]
        simp [Ideal.ofBits, Ideal.ieee]
      rw [ht] at h2
      exact absurd (lt_of_le_of_lt h2 hm) (by simp)
    · exact absurd (lt_of_le_of_lt ((wordN_mono (by norm_num) (by omega) (by omega)).trans h2) hm) (lt_irrefl _)
  refine ⟨n, hn, e, h2, ?_⟩
  rcases h3 with h3 | h3
  · omega
  · exact h3

/-- The exponent field plus one, and 253 less it, from the kernel's exponent. -/
theorem fields : ∀ n : Fin 253,
    IntOp.addi (IntOp.subi (BitVec.ofNat 32 n.val) 126#32) 127#32 = BitVec.ofNat 32 (n.val + 1)
      ∧ IntOp.subi 127#32 (IntOp.subi (BitVec.ofNat 32 n.val) 126#32) = BitVec.ofNat 32 (253 - n.val) := by
  decide +kernel

/-- The exponents the reference lists. -/
theorem listed : ∀ k : Fin 254, (IntOp.subi (BitVec.ofNat 32 k.val) 126#32).toInt = (k.val : ℤ) - 126 := by
  decide +kernel

/-- Two to an integer, at the idealized reading. -/
theorem exp2_int (e : ℤ) : Ideal.exp2 ((e : ℝ) : EReal) = (((2 : ℝ) ^ e : ℝ) : EReal) := by
  show ((Real.rpow 2 e : ℝ) : EReal) = _
  congr 1
  exact Real.rpow_intCast 2 e

/-- The reference's search: below `2 ^ 126`, with `n` the kernel's exponent field, the least listed exponent is `n - 126`. -/
theorem least_eq (m : EReal) (n : ℕ) (hn : n ≤ 252) (h2 : n = 0 ∨ wordN n ≤ m) (h3 : m < wordN (n + 1)) :
    (Finset.univ.fold min (Ideal.ofBits .f32 0x7F800000#32) fun k : Fin 254 =>
      if m < Ideal.exp2 (((IntOp.subi (BitVec.ofNat 32 k) 126#32).toInt : ℝ) : EReal)
      then (((IntOp.subi (BitVec.ofNat 32 k) 126#32).toInt : ℝ) : EReal) else Ideal.ofBits .f32 0x7F800000#32)
      = ((((n : ℤ) - 126 : ℤ) : ℝ) : EReal) := by
  have top : Ideal.ofBits .f32 0x7F800000#32 = ⊤ := by simp [Ideal.ofBits, Ideal.ieee]
  rw [top]
  have hp (k : Fin 254) : Ideal.exp2 (((IntOp.subi (BitVec.ofNat 32 k) 126#32).toInt : ℝ) : EReal) = wordN (k.val + 1) := by
    rw [exp2_int, listed, wordN_eq _ (by omega) (by omega)]
    congr 2
    push_cast
    ring
  apply le_antisymm
  · refine (Finset.fold_min_le _).mpr (.inr ⟨⟨n, by omega⟩, Finset.mem_univ _, ?_⟩)
    rw [hp, if_pos h3, listed]
  · refine (Finset.le_fold_min _).mpr ⟨le_top, fun k _ => ?_⟩
    rw [hp]
    by_cases hk : m < wordN (k.val + 1)
    · rw [if_pos hk, listed]
      refine EReal.coe_le_coe_iff.mpr (Int.cast_le.mpr ?_)
      by_contra hc
      rcases h2 with h2 | h2
      · omega
      · exact absurd (lt_of_le_of_lt ((wordN_mono (by omega) (by omega) (by omega)).trans h2) hk) (lt_irrefl _)
    · rw [if_neg hk]
      exact le_top

/-- THE EXPONENTS AGREE: a row whose largest magnitude over 448 is below `2 ^ 126` gets the reference's scale and the
    reference's inverse scale. -/
theorem scales_agree (a : EReal) (h : a * recip448 < wordN 253) :
    kscale a = Ideal.exp2 (rexp a) ∧ kinv a = Ideal.exp2 (Ideal.ofBits .f32 0#32 - rexp a) := by
  have zero : Ideal.ofBits .f32 0#32 = ((0 : ℝ) : EReal) := by simp [Ideal.ofBits, Ideal.ieee]
  rw [zero]
  unfold kscale kinv kexp rexp
  by_cases ha : a = 0
  · simp only [if_pos ha]
    have h0 : Ideal.exp2 (0 : EReal) = (((2 : ℝ) ^ (0 : ℤ) : ℝ) : EReal) := by
      rw [← exp2_int]
      simp
    have h1 : word (BitVec.ofNat 32 127) = (((2 : ℝ) ^ (0 : ℤ) : ℝ) : EReal) := (wordN_eq 127 (by norm_num) (by norm_num)).trans (by norm_num)
    refine ⟨?_, ?_⟩
    · rw [h0, ← h1]; rfl
    · rw [EReal.coe_zero, sub_zero, h0, ← h1]; rfl
  · simp only [if_neg ha]
    obtain ⟨n, hn, e, h2, h3⟩ := biased_small _ h
    obtain ⟨f1, f2⟩ := fields ⟨n, by omega⟩
    simp only at f1 f2
    rw [least_eq _ n hn h2 h3, e, f1, f2, ← EReal.coe_sub, exp2_int]
    refine ⟨(wordN_eq (n + 1) (by omega) (by omega)).trans ?_, (wordN_eq (253 - n) (by omega) (by omega)).trans ?_⟩
    · congr 2
      push_cast
      ring
    · rw [show (0 : ℝ) - (((n : ℤ) - 126 : ℤ) : ℝ) = ((126 - (n : ℤ) : ℤ) : ℝ) by push_cast; ring, exp2_int]
      congr 2
      omega

end Cert.Row

end
-- ==== Proof.Bound.lean ====
/-
  How large the normalised row can be: with finite f32 norm weights its largest magnitude over 448 is below 2 ^ 126,
  whatever the hidden states are.
-/
module

public import proofs.«01_k».proof.Proof.Exponent

@[expose] public section

noncomputable section

namespace Cert.Row

open Idealize.ShloMosaic Idealize.SL.Sem

/-- The row length the mean divides by. -/
theorem const_5120 : Ideal.ofBits .f32 0x45A00000#32 = ((5120 : ℝ) : EReal) := by
  simp [Ideal.ofBits, Ideal.ieee, -EReal.coe_mul]
  norm_num

/-- The stabiliser added to the mean square. -/
def eps : ℝ := 10995116 * 2 ^ (-40 : ℤ)

theorem const_eps : Ideal.ofBits .f32 0x3727C5AC#32 = ((eps : ℝ) : EReal) := by
  unfold eps
  simp [Ideal.ofBits, Ideal.ieee, -EReal.coe_mul]

/-- The f32 constant nearest 1 / 448, as a real. -/
theorem const_recip : recip448 = ((9586981 * (2 : ℝ) ^ (-32 : ℤ) : ℝ) : EReal) := by
  unfold recip448
  simp [Ideal.ofBits, Ideal.ieee, -EReal.coe_mul]

/-- The largest finite f32. -/
def fltMax : ℝ := 16777215 * 2 ^ (104 : ℤ)

theorem const_fltMax : Ideal.ofBits .f32 0x7F7FFFFF#32 = ((fltMax : ℝ) : EReal) := by
  unfold fltMax
  simp [Ideal.ofBits, Ideal.ieee, -EReal.coe_mul]

/-- A square is not negative. -/
theorem sq_nonneg' (x : EReal) : 0 ≤ x * x := by
  induction x with
  | bot => simp
  | top => simp
  | coe r => exact_mod_cast mul_self_nonneg r

/-- A row entry over the row's root mean square is a real of magnitude at most 72. -/
theorem normalised_small (x : Fin 5120 → EReal) (j : Fin 5120) :
    ∃ g : ℝ, |g| ≤ 72 ∧
      x j * Ideal.rsqrt (Ideal.div (∑ k, x k * x k) (Ideal.ofBits .f32 0x45A00000#32) + Ideal.ofBits .f32 0x3727C5AC#32) = ((g : ℝ) : EReal) := by
  have hj : x j * x j ≤ ∑ k, x k * x k := Finset.single_le_sum (f := fun k => x k * x k) (fun k _ => sq_nonneg' (x k)) (Finset.mem_univ j)
  have h0 : 0 ≤ ∑ k, x k * x k := Finset.sum_nonneg fun k _ => sq_nonneg' (x k)
  have e0 : 0 < eps := by unfold eps; positivity
  rw [const_5120, const_eps]
  generalize ∑ k, x k * x k = S at hj h0
  generalize x j = y at hj
  have hd : Ideal.div S ((5120 : ℝ) : EReal) = S * ((5120⁻¹ : ℝ) : EReal) := by
    unfold Ideal.div
    rw [if_neg (by simp), EReal.coe_inv]
  rw [hd]
  induction S with
  | bot => simp at h0
  | top =>
    refine ⟨0, by norm_num, ?_⟩
    rw [EReal.top_mul_coe_of_pos (by norm_num), EReal.top_add_coe]
    show y * 0 = _
    simp
  | coe s =>
    have hs : 0 ≤ s := by exact_mod_cast h0
    induction y with
    | bot => simp at hj
    | top => simp at hj
    | coe f =>
      have hf : f * f ≤ s := by exact_mod_cast hj
      have hv : 0 < s * 5120⁻¹ + eps := by positivity
      refine ⟨f * (√(s * 5120⁻¹ + eps))⁻¹, ?_, ?_⟩
      · rw [abs_mul, abs_inv, abs_of_nonneg (Real.sqrt_nonneg _), ← div_eq_mul_inv, div_le_iff₀ (Real.sqrt_pos.mpr hv)]
        apply abs_le_of_sq_le_sq _ (by positivity)
        rw [mul_pow, Real.sq_sqrt hv.le]
        nlinarith
      · rw [← EReal.coe_mul, ← EReal.coe_add]
        show _ * (if _ then _ else if _ then _ else _) = _
        rw [if_neg (not_lt.mpr hv.le), if_neg hv.ne', ← EReal.coe_mul]

/-- A value of magnitude at most the largest finite f32 is a real of that magnitude. -/
theorem real_of_le (w : EReal) (h : max w (-w) ≤ Ideal.ofBits .f32 0x7F7FFFFF#32) : ∃ v : ℝ, |v| ≤ fltMax ∧ w = ((v : ℝ) : EReal) := by
  rw [const_fltMax] at h
  obtain ⟨h1, h2⟩ := max_le_iff.mp h
  induction w with
  | bot => simp at h2
  | top => simp at h1
  | coe v =>
    refine ⟨v, abs_le.mpr ⟨?_, by exact_mod_cast h1⟩, rfl⟩
    have : -v ≤ fltMax := by exact_mod_cast h2
    linarith

/-- THE BOUND: with norm weights of magnitude at most the largest finite f32, the row's largest magnitude over 448 is
    below `2 ^ 126`. -/
theorem rowA_small (x w : Fin 5120 → EReal) (hw : ∀ j, max (w j) (-(w j)) ≤ Ideal.ofBits .f32 0x7F7FFFFF#32) :
    rowA x w * recip448 < wordN 253 := by
  have hA : rowA x w ≤ ((72 * fltMax : ℝ) : EReal) := by
    unfold rowA
    refine (Finset.fold_max_le _).mpr ⟨?_, fun j _ => ?_⟩
    · have : Ideal.ofBits .f32 0xFF800000#32 = ⊥ := by simp [Ideal.ofBits, Ideal.ieee]
      rw [this]
      exact bot_le
    · obtain ⟨g, hg, eg⟩ := normalised_small x j
      obtain ⟨v, hv, ev⟩ := real_of_le (w j) (hw j)
      unfold rowH
      rw [eg, ev, ← EReal.coe_mul, ← EReal.coe_neg]
      have hgv : |g * v| ≤ 72 * fltMax := by
        rw [abs_mul]
        exact mul_le_mul hg hv (abs_nonneg _) (by norm_num)
      obtain ⟨h1, h2⟩ := abs_le.mp hgv
      exact max_le (EReal.coe_le_coe_iff.mpr h2) (EReal.coe_le_coe_iff.mpr (by linarith))
  rw [wordN_eq 253 (by norm_num) (by norm_num), const_recip]
  have hr : (0 : EReal) ≤ ((9586981 * (2 : ℝ) ^ (-32 : ℤ) : ℝ) : EReal) := by
    have : (0 : ℝ) ≤ 9586981 * (2 : ℝ) ^ (-32 : ℤ) := by positivity
    exact_mod_cast this
  refine lt_of_le_of_lt (mul_le_mul_of_nonneg_right hA hr) ?_
  rw [← EReal.coe_mul]
  refine EReal.coe_lt_coe_iff.mpr ?_
  unfold fltMax
  norm_num

end Cert.Row

end
-- ==== Proof.KernelBlock.lean ====
/-
  What one grid point of the kernel computes at the idealized reading: each output block, entry by entry, as a function
  of one row of the hidden block, the norm weight, one row of the projection and its scale.
-/
module

public import proofs.«01_k».proof.Proof.Gen.KernelIdeal.Frame
public import Idealize.ShloMosaic.Lib.Pointwise
public import Idealize.ShloMosaic.Lib.Pipeline.ValueKit
public import proofs.«01_k».proof.Proof.Row

@[expose] public section

set_option maxRecDepth 16384

noncomputable section

open Idealize.ShloMosaic Idealize.ShloMosaic.TcCoe Idealize.SL.Sem

namespace Cert.KernelIdeal.Block

open Cert.KernelIdeal Cert.KernelIdeal.Gen Cert.Row

/-- The normalised block, at one entry. -/
theorem h_at (u : Vec Ideal S1x256x5120 .bf16) (w : Vec Ideal S1x5120 .f32) (r : Fin 256) (j : Fin 5120) :
    k0_pay2 (F := Ideal) u w (ix2 r j) = rowH (fun k => u (ix3 0 r k)) (fun k => w (ix2 0 k)) j := by
  pointwise [k0_pay2]
  unfold rowH
  with_reducible rfl

/-- The row maximum, kept as a column, at one row. -/
theorem max_at (v : FVec Ideal S256x5120 .f32) (r : Fin 256) :
    shapeCast S256x1 (multiReduction .maximumf [1] S256 v 0xFF800000#32 reduces_S256x5120_S256 (.inl rfl) rfl) shapeCasts_S256_S256x1 (ix2 r 0)
      = Finset.univ.fold max (Ideal.ofBits .f32 0xFF800000#32) fun j : Fin 5120 => v (ix2 r j) := by
  pointwise

/-- The magnitude, at one entry. -/
theorem abs_at {s : Shape} (v : FVec Ideal s .f32) (i : s.Idx) : absf v i = max (v i) (-(v i)) := by
  pointwise
  rfl

/-- The largest magnitude of a row of the block. -/
theorem a_at (u : Vec Ideal S1x256x5120 .bf16) (w : Vec Ideal S1x5120 .f32) (r : Fin 256) :
    k0_pay3 (F := Ideal) u w (ix2 r 0) = rowA (fun k => u (ix3 0 r k)) (fun k => w (ix2 0 k)) := by
  unfold rowA
  simp only [← h_at]
  unfold k0_pay3
  generalize k0_pay2 (F := Ideal) u w = v
  refine (max_at _ r).trans ?_
  simp only [abs_at]

/-- A vector times a splat, at one entry. -/
theorem mulc_at {s : Shape} (v : FVec Ideal s .f32) (c : EReal) (i : s.Idx) :
    mulf v (broadcast s (α := Ideal .f32) c) i = v i * c := rfl

/-- The largest magnitude over 448, at one row. -/
theorem m_at (u : Vec Ideal S1x256x5120 .bf16) (w : Vec Ideal S1x5120 .f32) (i : S256x1.Idx) :
    k0_pay4 (F := Ideal) u w i = k0_pay3 (F := Ideal) u w i * recip448 := by
  unfold k0_pay4 recip448
  generalize k0_pay3 (F := Ideal) u w = v
  exact mulc_at v _ i

/-- One step of the kernel's search for the exponent field, over the column of rows. -/
def stepV (v : FVec Ideal S256x1 .f32) (b : IVec S256x1 32) (k : BitVec 32) : IVec S256x1 32 :=
  select (cmpf .olt v (bitcastToFloat .f32 (shli (addi b (broadcast S256x1 k)) (broadcast S256x1 23#32)))) b (addi b (broadcast S256x1 k))

/-- One step of the search, at one row. -/
theorem step_at (v : FVec Ideal S256x1 .f32) (b : IVec S256x1 32) (k : BitVec 32) (i : S256x1.Idx) :
    stepV v b k i = step (v i) (b i) k := by
  pointwise [stepV]
  rfl

/-- The first two steps of the search, at one row. -/
theorem high_at (u : Vec Ideal S1x256x5120 .bf16) (w : Vec Ideal S1x5120 .f32) (i : S256x1.Idx) :
    k0_pay5 (F := Ideal) u w i = biasedHigh (k0_pay4 (F := Ideal) u w i) := by
  show stepV (k0_pay4 (F := Ideal) u w) (stepV (k0_pay4 (F := Ideal) u w) (broadcast S256x1 0#32) 128#32) 64#32 i = _
  simp only [step_at]
  rfl

/-- The next five steps of the search, at one row. -/
theorem mid_at (v : FVec Ideal S256x1 .f32) (b : IVec S256x1 32) (i : S256x1.Idx) :
    k0_pay6 (F := Ideal) v b 32#32 i = biasedMid (v i) (b i) := by
  show stepV v (stepV v (stepV v (stepV v (stepV v b 32#32) 16#32) 8#32) 4#32) 2#32 i = _
  simp only [step_at]
  rfl

/-- The last step and the zero-row case: the kernel's exponent, at one row. -/
theorem exp_at (v19 v21 : FVec Ideal S256x1 .f32) (v85 : IVec S256x1 32) (i : S256x1.Idx) :
    k0_pay7 (F := Ideal) v19 v21 v85 1#32 i = if v19 i = 0 then 0#32 else IntOp.subi (step (v21 i) (v85 i) 1#32) 126#32 := by
  pointwise [k0_pay7]
  rfl

/-- The scale, from the exponent, at one row. -/
theorem scale_at (v19 v21 : FVec Ideal S256x1 .f32) (v85 : IVec S256x1 32) (i : S256x1.Idx) :
    k0_pay8 (F := Ideal) v19 v21 v85 1#32 i = word (IntOp.addi (k0_pay7 (F := Ideal) v19 v21 v85 1#32 i) 127#32) := by
  rfl

/-- The quantised block, from the exponent, at one entry. -/
theorem code_at (v16 : FVec Ideal S256x5120 .f32) (v19 v21 : FVec Ideal S256x1 .f32) (v85 : IVec S256x1 32) (r : Fin 256) (j : Fin 5120) :
    k0_pay9 (F := Ideal) v16 v19 v21 v85 1#32 (ix2 r j)
      = clip (v16 (ix2 r j) * word (IntOp.subi 127#32 (k0_pay7 (F := Ideal) v19 v21 v85 1#32 (ix2 r 0)))) := by
  unfold k0_pay9
  generalize k0_pay7 (F := Ideal) v19 v21 v85 1#32 = e
  pointwise
  rfl

/-- The stored scale row, at one row of the block. -/
theorem scale_row_at (v19 v21 : FVec Ideal S256x1 .f32) (v85 : IVec S256x1 32) (r : Fin 256) :
    k0_pay11 (F := Ideal) v19 v21 v85 1#32 (ix3 0 0 r) = k0_pay8 (F := Ideal) v19 v21 v85 1#32 (ix2 r 0) := by
  unfold k0_pay11
  generalize k0_pay8 (F := Ideal) v19 v21 v85 1#32 = e
  pointwise

/-- The stored codes, at one entry. -/
theorem codes_at (v16 : FVec Ideal S256x5120 .f32) (v19 v21 : FVec Ideal S256x1 .f32) (v85 : IVec S256x1 32) (r : Fin 256) (j : Fin 5120) :
    k0_pay10 (F := Ideal) v16 v19 v21 v85 1#32 (ix3 0 r j) = k0_pay9 (F := Ideal) v16 v19 v21 v85 1#32 (ix2 r j) := by
  unfold k0_pay10
  generalize k0_pay9 (F := Ideal) v16 v19 v21 v85 1#32 = e
  pointwise

section
variable (x0 : Vec Ideal S1x256x5120 .bf16) (x1 : Vec Ideal S1x5120 .f32) (x2 : Vec Ideal S6448x5120 .fp8e4m3) (x3 : Vec Ideal S1x6448 .f32)

/-- The exponent of a row of the block. -/
theorem kexp_at (r : Fin 256) :
    k0_pay7 (F := Ideal) (k0_pay3 x0 x1) (k0_pay4 x0 x1) (k0_pay6 (k0_pay4 x0 x1) (k0_pay5 x0 x1) 32#32) 1#32 (ix2 r 0)
      = kexp (rowA (fun k => x0 (ix3 0 r k)) (fun k => x1 (ix2 0 k))) := by
  rw [exp_at, mid_at, high_at, m_at, a_at]
  rfl

/-- The scale the frame names, at one row. -/
theorem pay22_at (r : Fin 256) :
    k0_pay22 (F := Ideal) x0 x1 x2 x3 (ix2 r 0) = kscale (rowA (fun k => x0 (ix3 0 r k)) (fun k => x1 (ix2 0 k))) := by
  unfold k0_pay22 k0_pay21 k0_pay20 k0_pay19
  rw [View.ld_unit_zero (S := S1x256x5120) (by decide) _ x0, View.ld_unit_zero (S := S1x5120) (by decide) _ x1, scale_at, kexp_at]
  rfl

/-- The quantised block the frame names, at one entry. -/
theorem pay23_at (r : Fin 256) (j : Fin 5120) :
    k0_pay23 (F := Ideal) x0 x1 x2 x3 (ix2 r j)
      = rowCode (kinv (rowA (fun k => x0 (ix3 0 r k)) (fun k => x1 (ix2 0 k)))) (fun k => x0 (ix3 0 r k)) (fun k => x1 (ix2 0 k)) j := by
  unfold k0_pay23 k0_pay21 k0_pay20 k0_pay19 k0_pay18
  rw [View.ld_unit_zero (S := S1x256x5120) (by decide) _ x0, View.ld_unit_zero (S := S1x5120) (by decide) _ x1, code_at, kexp_at, h_at]
  rfl

/-- One channel of a row of the block: what the row of weights `p` and the channel scale `s` make of it. -/
def chan (r : Fin 256) (i : Fin 6448) : EReal :=
  rowProj (kinv (rowA (fun k => x0 (ix3 0 r k)) (fun k => x1 (ix2 0 k)))) (kscale (rowA (fun k => x0 (ix3 0 r k)) (fun k => x1 (ix2 0 k))))
    (fun k => x0 (ix3 0 r k)) (fun k => x1 (ix2 0 k)) (fun k => x2 (ix2 i k)) (x3 (ix2 0 i))

/-- The `z` slice of the projection, from the scale and the codes, at one entry. -/
theorem z_at (v105 : FVec Ideal S256x1 .f32) (v117 : FVec Ideal S256x5120 .fp8e4m3) (v128 : Vec Ideal S6448x5120 .fp8e4m3) (v132 : Vec Ideal S1x6448 .f32)
    (r : Fin 256) (j : Fin 3072) :
    k0_pay13 (F := Ideal) v105 v117 v128 v132 (ix3 0 r j)
      = ((∑ k, v117 (ix2 r k) * v128 (ix2 ⟨j, by omega⟩ k)) * v105 (ix2 r 0) * v132 (ix2 0 ⟨j, by omega⟩) : EReal) := by
  pointwise [k0_pay13, k0_pay12]

/-- What a grid point leaves in the `z` block, at one entry. -/
theorem out4_at (r : Fin 256) (j : Fin 3072) : out0_4 (F := Ideal) x0 x1 x2 x3 (ix3 0 r j) = chan x0 x1 x2 x3 r ⟨j, by omega⟩ := by
  unfold out0_4
  rw [View.canon_unit_zero (by decide), View.ld_unit_zero (S := S6448x5120) (by decide) _ x2, View.ld_unit_zero (S := S1x6448) (by decide) _ x3, z_at]
  simp only [pay23_at, pay22_at]
  rfl

/-- The `x` slice of the projection, from the scale and the codes, at one entry. -/
theorem x_at (v105 : FVec Ideal S256x1 .f32) (v117 : FVec Ideal S256x5120 .fp8e4m3) (v128 : Vec Ideal S6448x5120 .fp8e4m3) (v132 : Vec Ideal S1x6448 .f32)
    (r : Fin 256) (j : Fin 3072) :
    k0_pay14 (F := Ideal) v105 v117 v128 v132 (ix3 0 r j)
      = ((∑ k, v117 (ix2 r k) * v128 (ix2 ⟨3072 + j, by omega⟩ k)) * v105 (ix2 r 0) * v132 (ix2 0 ⟨3072 + j, by omega⟩) : EReal) := by
  pointwise [k0_pay14, k0_pay12]

/-- What a grid point leaves in the `x` block, at one entry. -/
theorem out5_at (r : Fin 256) (j : Fin 3072) : out0_5 (F := Ideal) x0 x1 x2 x3 (ix3 0 r j) = chan x0 x1 x2 x3 r ⟨3072 + j, by omega⟩ := by
  unfold out0_5
  rw [View.canon_unit_zero (by decide), View.ld_unit_zero (S := S6448x5120) (by decide) _ x2, View.ld_unit_zero (S := S1x6448) (by decide) _ x3, x_at]
  simp only [pay23_at, pay22_at]
  rfl

/-- The `b` slice of the projection, from the scale and the codes, at one entry. -/
theorem b_at (v105 : FVec Ideal S256x1 .f32) (v117 : FVec Ideal S256x5120 .fp8e4m3) (v128 : Vec Ideal S6448x5120 .fp8e4m3) (v132 : Vec Ideal S1x6448 .f32)
    (r : Fin 256) (j : Fin 128) :
    k0_pay15 (F := Ideal) v105 v117 v128 v132 (ix3 0 r j)
      = ((∑ k, v117 (ix2 r k) * v128 (ix2 ⟨6144 + j, by omega⟩ k)) * v105 (ix2 r 0) * v132 (ix2 0 ⟨6144 + j, by omega⟩) : EReal) := by
  pointwise [k0_pay15, k0_pay12]

/-- What a grid point leaves in the `b` block, at one entry. -/
theorem out6_at (r : Fin 256) (j : Fin 128) : out0_6 (F := Ideal) x0 x1 x2 x3 (ix3 0 r j) = chan x0 x1 x2 x3 r ⟨6144 + j, by omega⟩ := by
  unfold out0_6
  rw [View.canon_unit_zero (by decide), View.ld_unit_zero (S := S6448x5120) (by decide) _ x2, View.ld_unit_zero (S := S1x6448) (by decide) _ x3, b_at]
  simp only [pay23_at, pay22_at]
  rfl

/-- The `c` slice of the projection, from the scale and the codes, at one entry. -/
theorem c_at (v105 : FVec Ideal S256x1 .f32) (v117 : FVec Ideal S256x5120 .fp8e4m3) (v128 : Vec Ideal S6448x5120 .fp8e4m3) (v132 : Vec Ideal S1x6448 .f32)
    (r : Fin 256) (j : Fin 128) :
    k0_pay16 (F := Ideal) v105 v117 v128 v132 (ix3 0 r j)
      = ((∑ k, v117 (ix2 r k) * v128 (ix2 ⟨6272 + j, by omega⟩ k)) * v105 (ix2 r 0) * v132 (ix2 0 ⟨6272 + j, by omega⟩) : EReal) := by
  pointwise [k0_pay16, k0_pay12]

/-- What a grid point leaves in the `c` block, at one entry. -/
theorem out7_at (r : Fin 256) (j : Fin 128) : out0_7 (F := Ideal) x0 x1 x2 x3 (ix3 0 r j) = chan x0 x1 x2 x3 r ⟨6272 + j, by omega⟩ := by
  unfold out0_7
  rw [View.canon_unit_zero (by decide), View.ld_unit_zero (S := S6448x5120) (by decide) _ x2, View.ld_unit_zero (S := S1x6448) (by decide) _ x3, c_at]
  simp only [pay23_at, pay22_at]
  rfl

/-- The `dt` slice of the projection, from the scale and the codes, at one entry. -/
theorem dt_at (v105 : FVec Ideal S256x1 .f32) (v117 : FVec Ideal S256x5120 .fp8e4m3) (v128 : Vec Ideal S6448x5120 .fp8e4m3) (v132 : Vec Ideal S1x6448 .f32)
    (r : Fin 256) (j : Fin 48) :
    k0_pay1 (k0_pay17 (F := Ideal) v105 v117 v128 v132) (ix3 0 r j)
      = ((∑ k, v117 (ix2 r k) * v128 (ix2 ⟨6400 + j, by omega⟩ k)) * v105 (ix2 r 0) * v132 (ix2 0 ⟨6400 + j, by omega⟩) : EReal) := by
  pointwise [k0_pay1, k0_pay17, k0_pay12]

/-- What a grid point leaves in the `dt` block, at one entry. -/
theorem out8_at (r : Fin 256) (j : Fin 48) : out0_8 (F := Ideal) x0 x1 x2 x3 (ix3 0 r j) = chan x0 x1 x2 x3 r ⟨6400 + j, by omega⟩ := by
  unfold out0_8
  rw [View.canon_unit_zero (by decide), View.ld_unit_zero (S := S6448x5120) (by decide) _ x2, View.ld_unit_zero (S := S1x6448) (by decide) _ x3, dt_at]
  simp only [pay23_at, pay22_at]
  rfl

/-- What a grid point leaves in the codes block, at one entry. -/
theorem out9_at (r : Fin 256) (j : Fin 5120) : out0_9 (F := Ideal) x0 x1 x2 x3 (ix3 0 r j)
    = rowCode (kinv (rowA (fun k => x0 (ix3 0 r k)) (fun k => x1 (ix2 0 k)))) (fun k => x0 (ix3 0 r k)) (fun k => x1 (ix2 0 k)) j := by
  rw [← pay23_at x0 x1 x2 x3]
  unfold out0_9
  rw [View.canon_unit_zero (by decide), codes_at]
  rfl

/-- What a grid point leaves in the scale block, at one row. -/
theorem out10_at (r : Fin 256) : out0_10 (F := Ideal) x0 x1 x2 x3 (ix3 0 0 r)
    = kscale (rowA (fun k => x0 (ix3 0 r k)) (fun k => x1 (ix2 0 k))) := by
  rw [← pay22_at x0 x1 x2 x3]
  unfold out0_10
  rw [View.canon_unit_zero (by decide), scale_row_at]
  rfl

end

end Cert.KernelIdeal.Block

end
-- ==== Proof.KernelArray.lean ====
/-
  The kernel's result arrays after the run at the idealized reading: each array, entry by entry, as a function of the
  argument arrays.
-/
module

public import proofs.«01_k».proof.Proof.Gen.KernelIdeal.Frame
public import Idealize.ShloMosaic.Lib.Pipeline.ValueKit
public import proofs.«01_k».proof.Proof.KernelBlock

@[expose] public section

set_option maxRecDepth 16384

noncomputable section

open Idealize.ShloMosaic Idealize.ShloMosaic.TcCoe Idealize.SL.Sem
open Idealize.ShloMosaic.Pipeline (Dat)

namespace Cert.KernelIdeal.Array

open Cert.KernelIdeal Cert.KernelIdeal.Gen Cert.Row

section
variable (u : Vec Ideal S3x1024x5120 .bf16) (w : Vec Ideal S5120 .f32) (p : Vec Ideal S6448x5120 .fp8e4m3) (s : Vec Ideal S6448 .f32)

/-- The largest magnitude of a token's normalised row. -/
def tokA (b : Fin 3) (r : Fin 1024) : EReal := rowA (fun k => u (ix3 b r k)) (fun k => w (ix1 k))

/-- One channel of a token. -/
def chan (b : Fin 3) (r : Fin 1024) (i : Fin 6448) : EReal :=
  rowProj (kinv (tokA u w b r)) (kscale (tokA u w b r)) (fun k => u (ix3 b r k)) (fun k => w (ix1 k)) (fun k => p (ix2 i k)) (s (ix1 i))

/-- One code of a token. -/
def code (b : Fin 3) (r : Fin 1024) (j : Fin 5120) : EReal :=
  rowCode (kinv (tokA u w b r)) (fun k => u (ix3 b r k)) (fun k => w (ix1 k)) j

/-- The `z` array. -/
def arr4 : Vec Ideal S3x1024x3072 .bf16 := fun i => chan u w p s (i 0) (i 1) ((fun j : Fin 3072 => ((⟨j, by omega⟩) : Fin 6448)) (i 2))

/-- The `x` array. -/
def arr5 : Vec Ideal S3x1024x3072 .bf16 := fun i => chan u w p s (i 0) (i 1) ((fun j : Fin 3072 => ((⟨3072 + j, by omega⟩) : Fin 6448)) (i 2))

/-- The `b` array. -/
def arr6 : Vec Ideal S3x1024x128 .bf16 := fun i => chan u w p s (i 0) (i 1) ((fun j : Fin 128 => ((⟨6144 + j, by omega⟩) : Fin 6448)) (i 2))

/-- The `c` array. -/
def arr7 : Vec Ideal S3x1024x128 .bf16 := fun i => chan u w p s (i 0) (i 1) ((fun j : Fin 128 => ((⟨6272 + j, by omega⟩) : Fin 6448)) (i 2))

/-- The `dt` array. -/
def arr8 : Vec Ideal S3x1024x48 .bf16 := fun i => chan u w p s (i 0) (i 1) ((fun j : Fin 48 => ((⟨6400 + j, by omega⟩) : Fin 6448)) (i 2))

/-- The codes array. -/
def arr9 : Vec Ideal S3x1024x5120 .fp8e4m3 := fun i => code u w (i 0) (i 1) (i 2)

/-- The scale array. -/
def arr10 : Vec Ideal S3x1x1024 .f32 := fun i => kscale (tokA u w (i 0) (i 2))

end

variable (m : (ℓ : Loc nD τ sig) → Buf (Elt Ideal) ℓ)

/-- Which block each window takes at each grid point. -/
theorem idx : ∀ t : Fin cfg0.N, t.val / 4 < 3
    ∧ win0_0.index t = ![t.val / 4, t.val % 4, 0] ∧ win0_1.index t = ![0, 0] ∧ win0_2.index t = ![0, 0] ∧ win0_3.index t = ![0, 0]
    ∧ win0_4.index t = ![t.val / 4, t.val % 4, 0] ∧ win0_5.index t = ![t.val / 4, t.val % 4, 0] ∧ win0_6.index t = ![t.val / 4, t.val % 4, 0]
    ∧ win0_7.index t = ![t.val / 4, t.val % 4, 0] ∧ win0_8.index t = ![t.val / 4, t.val % 4, 0] ∧ win0_9.index t = ![t.val / 4, t.val % 4, 0]
    ∧ win0_10.index t = ![t.val / 4, 0, t.val % 4] :=
  (by decide +kernel : ∀ t : Fin grid0.N, _)

/-- The batch a grid point works on. -/
def bat (t : Fin cfg0.N) : Fin 3 := ⟨t.val / 4, (idx t).1⟩

/-- The token a row of a grid point's block is. -/
def tok (t : Fin cfg0.N) (r : Fin 256) : Fin 1024 := ⟨t.val % 4 * 256 + r.val, by omega⟩

/-- The hidden block, at one entry. -/
theorem block0 (c : Dev nD) (t : Fin cfg0.N) (r : Fin 256) (k : Fin 5120) :
    (iblk m c 0 t : Vec Ideal S1x256x5120 .bf16) (ix3 0 r k) = (m ((c : Thread nD τ).loc main_arg0) : Vec Ideal S3x1024x5120 .bf16) (ix3 (bat t) (tok t r) k) := by
  unfold bat tok
  blk_ext [iblk, V, idx t]

/-- The norm weight block, at one entry. -/
theorem block1 (c : Dev nD) (t : Fin cfg0.N) (k : Fin 5120) :
    (iblk m c 1 t : Vec Ideal S1x5120 .f32) (ix2 0 k) = (m ((c : Thread nD τ).loc main_arg1) : Vec Ideal S5120 .f32) (ix1 k) := by
  blk_point [iblk, V, idx t]

/-- The projection block, at one entry. -/
theorem block2 (c : Dev nD) (t : Fin cfg0.N) (i : Fin 6448) (k : Fin 5120) :
    (iblk m c 2 t : Vec Ideal S6448x5120 .fp8e4m3) (ix2 i k) = (m ((c : Thread nD τ).loc main_arg2) : Vec Ideal S6448x5120 .fp8e4m3) (ix2 i k) := by
  blk_ext [iblk, V, idx t]

/-- The channel scale block, at one entry. -/
theorem block3 (c : Dev nD) (t : Fin cfg0.N) (i : Fin 6448) :
    (iblk m c 3 t : Vec Ideal S1x6448 .f32) (ix2 0 i) = (m ((c : Thread nD τ).loc main_arg3) : Vec Ideal S6448 .f32) (ix1 i) := by
  blk_point [iblk, V, idx t]

/-- A grid point's channel is the token's. -/
theorem chan_block (c : Dev nD) (t : Fin cfg0.N) (r : Fin 256) (i : Fin 6448) :
    Block.chan (iblk m c 0 t) (iblk m c 1 t) (iblk m c 2 t) (iblk m c 3 t) r i
      = chan (m ((c : Thread nD τ).loc main_arg0)) (m ((c : Thread nD τ).loc main_arg1)) (m ((c : Thread nD τ).loc main_arg2)) (m ((c : Thread nD τ).loc main_arg3))
          (bat t) (tok t r) i := by
  unfold Block.chan chan tokA
  simp only [block0, block1, block2, block3]

/-- Where an entry of the `z` block sits in its array. -/
theorem place4 (t : Fin cfg0.N) (r : Fin 256) (j : Fin 3072) :
    (((cfg0.win 4).blk t).view.emb (ix3 0 r j : S1x256x3072.Idx) : S3x1024x3072.Idx) = ix3 (bat t) (tok t r) j := by
  unfold bat tok
  blk_ext [idx t]

/-- THE `z` ARRAY after the run. -/
theorem final4 (c : Dev nD) : (dats m 0 c).arrAt 4 (cfgs 0).N
    = arr4 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  obtain ⟨r, j, rfl⟩ : ∃ (r : Fin 256) (j : Fin 3072), y = (ix3 0 r j : S1x256x3072.Idx) := ⟨y 1, y 2, by blk_ext⟩
  refine (Block.out4_at _ _ _ _ r j).trans ?_
  rw [chan_block]
  exact (congrArg (arr4 _ _ _ _) (place4 t r j)).symm

/-- Where an entry of the `x` block sits in its array. -/
theorem place5 (t : Fin cfg0.N) (r : Fin 256) (j : Fin 3072) :
    (((cfg0.win 5).blk t).view.emb (ix3 0 r j : S1x256x3072.Idx) : S3x1024x3072.Idx) = ix3 (bat t) (tok t r) j := by
  unfold bat tok
  blk_ext [idx t]

/-- THE `x` ARRAY after the run. -/
theorem final5 (c : Dev nD) : (dats m 0 c).arrAt 5 (cfgs 0).N
    = arr5 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  obtain ⟨r, j, rfl⟩ : ∃ (r : Fin 256) (j : Fin 3072), y = (ix3 0 r j : S1x256x3072.Idx) := ⟨y 1, y 2, by blk_ext⟩
  refine (Block.out5_at _ _ _ _ r j).trans ?_
  rw [chan_block]
  exact (congrArg (arr5 _ _ _ _) (place5 t r j)).symm

/-- Where an entry of the `b` block sits in its array. -/
theorem place6 (t : Fin cfg0.N) (r : Fin 256) (j : Fin 128) :
    (((cfg0.win 6).blk t).view.emb (ix3 0 r j : S1x256x128.Idx) : S3x1024x128.Idx) = ix3 (bat t) (tok t r) j := by
  unfold bat tok
  blk_ext [idx t]

/-- THE `b` ARRAY after the run. -/
theorem final6 (c : Dev nD) : (dats m 0 c).arrAt 6 (cfgs 0).N
    = arr6 (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  blk_simp
  rw [after0_6]
  obtain ⟨r, j, rfl⟩ : ∃ (r : Fin 256) (j : Fin 128), y = (ix3 0 r j : S1x256x128.Idx) := ⟨y 1, y 2, by blk_ext⟩
  refine (Block.out6_at _ _ _ _ r j).trans ?_
  rw [chan_block]
  exact (congrArg (arr6 _ _ _ _) (place6 t r j)).symm

/-- Where an entry of the `c` block sits in its array. -/
theorem place7 (t : Fin cfg0.N) (r : Fin 256) (j : Fin 128) :
    (((cfg0.win 7).blk t).view.emb (ix3 0 r j : S1x256x128.Idx) : S3x1024x128.Idx) = ix3 (bat t) (tok t r) j := by
  unfold bat tok
  blk_ext [idx t]

/-- THE `c` ARRAY after the run. -/
theorem final7 (c : Dev nD) : (dats m 0 c).arrAt 7 (cfgs 0).N
    = arr7 (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t _ y => ?_
  blk_simp
  rw [after0_7]
  obtain ⟨r, j, rfl⟩ : ∃ (r : Fin 256) (j : Fin 128), y = (ix3 0 r j : S1x256x128.Idx) := ⟨y 1, y 2, by blk_ext⟩
  refine (Block.out7_at _ _ _ _ r j).trans ?_
  rw [chan_block]
  exact (congrArg (arr7 _ _ _ _) (place7 t r j)).symm

/-- Where an entry of the `dt` block sits in its array. -/
theorem place8 (t : Fin cfg0.N) (r : Fin 256) (j : Fin 48) :
    (((cfg0.win 8).blk t).view.emb (ix3 0 r j : S1x256x48.Idx) : S3x1024x48.Idx) = ix3 (bat t) (tok t r) j := by
  unfold bat tok
  blk_ext [idx t]

/-- THE `dt` ARRAY after the run. -/
theorem final8 (c : Dev nD) : (dats m 0 c).arrAt 8 (cfgs 0).N
    = arr8 (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t _ y => ?_
  blk_simp
  rw [after0_8]
  obtain ⟨r, j, rfl⟩ : ∃ (r : Fin 256) (j : Fin 48), y = (ix3 0 r j : S1x256x48.Idx) := ⟨y 1, y 2, by blk_ext⟩
  refine (Block.out8_at _ _ _ _ r j).trans ?_
  rw [chan_block]
  exact (congrArg (arr8 _ _ _ _) (place8 t r j)).symm

/-- Where an entry of the codes block sits in its array. -/
theorem place9 (t : Fin cfg0.N) (r : Fin 256) (j : Fin 5120) :
    (((cfg0.win 9).blk t).view.emb (ix3 0 r j : S1x256x5120.Idx) : S3x1024x5120.Idx) = ix3 (bat t) (tok t r) j := by
  unfold bat tok
  blk_ext [idx t]

/-- THE CODES ARRAY after the run. -/
theorem final9 (c : Dev nD) : (dats m 0 c).arrAt 9 (cfgs 0).N
    = arr9 (m ((c : Thread nD τ).loc main_arg0)) (m ((c : Thread nD τ).loc main_arg1)) := by
  refine (dats m 0 c).arrAt_eq_of_covers 9 _ (by decide +kernel) fun t _ y => ?_
  blk_simp
  rw [after0_9]
  obtain ⟨r, j, rfl⟩ : ∃ (r : Fin 256) (j : Fin 5120), y = (ix3 0 r j : S1x256x5120.Idx) := ⟨y 1, y 2, by blk_ext⟩
  refine (Block.out9_at _ _ _ _ r j).trans ?_
  simp only [block0, block1]
  exact (congrArg (arr9 _ _) (place9 t r j)).symm

/-- Where an entry of the scale block sits in its array. -/
theorem place10 (t : Fin cfg0.N) (r : Fin 256) :
    (((cfg0.win 10).blk t).view.emb (ix3 0 0 r : S1x1x256.Idx) : S3x1x1024.Idx) = ix3 (bat t) 0 (tok t r) := by
  unfold bat tok
  blk_ext [idx t]

/-- THE SCALE ARRAY after the run. -/
theorem final10 (c : Dev nD) : (dats m 0 c).arrAt 10 (cfgs 0).N
    = arr10 (m ((c : Thread nD τ).loc main_arg0)) (m ((c : Thread nD τ).loc main_arg1)) := by
  refine (dats m 0 c).arrAt_eq_of_covers 10 _ (by decide +kernel) fun t _ y => ?_
  blk_simp
  rw [after0_10]
  obtain ⟨r, rfl⟩ : ∃ (r : Fin 256), y = (ix3 0 0 r : S1x1x256.Idx) := ⟨y 2, by blk_ext⟩
  refine (Block.out10_at _ _ _ _ r).trans ?_
  simp only [block0, block1]
  exact (congrArg (arr10 _ _) (place10 t r)).symm

end Cert.KernelIdeal.Array

end
-- ==== Proof.Agree.lean ====
/-
  The reference's result arrays against the kernel's: with finite norm weights they are the same arrays.
-/
module

public import proofs.«01_k».proof.Proof.Gen.ReferenceIdeal.Value
public import proofs.«01_k».proof.Proof.RefBlock
public import proofs.«01_k».proof.Proof.Bound
public import proofs.«01_k».proof.Proof.KernelArray

@[expose] public section

set_option maxRecDepth 16384

noncomputable section

open Idealize.ShloMosaic Idealize.ShloMosaic.TcCoe Idealize.SL.Sem

namespace Cert.Agree

open Cert.ReferenceIdeal Cert.ReferenceIdeal.Gen Cert.ReferenceIdeal.Value Cert.Row

variable (u : Vec Ideal S3x1024x5120 .bf16) (w : Vec Ideal S5120 .f32) (p : Vec Ideal S6448x5120 .fp8e4m3) (s : Vec Ideal S6448 .f32)

/-- The norm weights are of magnitude at most the largest finite f32. -/
def Finite : Prop := ∀ j : Fin 5120, max (w (ix1 j)) (-(w (ix1 j))) ≤ Ideal.ofBits .f32 0x7F7FFFFF#32

variable (hw : Finite w)
include hw

/-- The scale of a token is the kernel's. -/
theorem scale_eq (b : Fin 3) (r : Fin 1024) : Whole.scale u w b r = kscale (KernelIdeal.Array.tokA u w b r) :=
  (scales_agree _ (rowA_small _ _ hw)).1.symm

/-- The inverse scale of a token is the kernel's. -/
theorem inv_eq (b : Fin 3) (r : Fin 1024) : Whole.inv u w b r = kinv (KernelIdeal.Array.tokA u w b r) :=
  (scales_agree _ (rowA_small _ _ hw)).2.symm

/-- A channel of a token is the kernel's. -/
theorem chan_eq (b : Fin 3) (r : Fin 1024) (i : Fin 6448) : Whole.chan u w p s b r i = KernelIdeal.Array.chan u w p s b r i := by
  unfold Whole.chan KernelIdeal.Array.chan
  rw [scale_eq u w hw, inv_eq u w hw]

/-- The `z` array is the kernel's. -/
theorem arr4 : G4 (F := Ideal) u w p s = KernelIdeal.Array.arr4 u w p s := by
  funext i
  obtain ⟨b, r, j, rfl⟩ : ∃ (b : Fin 3) (r : Fin 1024) (j : Fin 3072), i = (ix3 b r j : S3x1024x3072.Idx) := ⟨i 0, i 1, i 2, eq_ix3 i⟩
  unfold G4 k0_pay14 k0_pay15 k0_pay16
  rw [View.ld_unit_zero (S := S3x1024x5120) (by decide) _ u, View.ld_unit_zero (S := S5120) (by decide) _ w]
  exact (Whole.z_at u w p s b r j).trans (chan_eq u w p s hw b r _)

/-- The `x` array is the kernel's. -/
theorem arr5 : G5 (F := Ideal) u w p s = KernelIdeal.Array.arr5 u w p s := by
  funext i
  obtain ⟨b, r, j, rfl⟩ : ∃ (b : Fin 3) (r : Fin 1024) (j : Fin 3072), i = (ix3 b r j : S3x1024x3072.Idx) := ⟨i 0, i 1, i 2, eq_ix3 i⟩
  unfold G5 k0_pay14 k0_pay15 k0_pay16
  rw [View.ld_unit_zero (S := S3x1024x5120) (by decide) _ u, View.ld_unit_zero (S := S5120) (by decide) _ w]
  exact (Whole.x_at u w p s b r j).trans (chan_eq u w p s hw b r _)

/-- The `b` array is the kernel's. -/
theorem arr6 : G6 (F := Ideal) u w p s = KernelIdeal.Array.arr6 u w p s := by
  funext i
  obtain ⟨b, r, j, rfl⟩ : ∃ (b : Fin 3) (r : Fin 1024) (j : Fin 128), i = (ix3 b r j : S3x1024x128.Idx) := ⟨i 0, i 1, i 2, eq_ix3 i⟩
  unfold G6 k0_pay14 k0_pay15 k0_pay16
  rw [View.ld_unit_zero (S := S3x1024x5120) (by decide) _ u, View.ld_unit_zero (S := S5120) (by decide) _ w]
  exact (Whole.b_at u w p s b r j).trans (chan_eq u w p s hw b r _)

/-- The `c` array is the kernel's. -/
theorem arr7 : G7 (F := Ideal) u w p s = KernelIdeal.Array.arr7 u w p s := by
  funext i
  obtain ⟨b, r, j, rfl⟩ : ∃ (b : Fin 3) (r : Fin 1024) (j : Fin 128), i = (ix3 b r j : S3x1024x128.Idx) := ⟨i 0, i 1, i 2, eq_ix3 i⟩
  unfold G7 k0_pay14 k0_pay15 k0_pay16
  rw [View.ld_unit_zero (S := S3x1024x5120) (by decide) _ u, View.ld_unit_zero (S := S5120) (by decide) _ w]
  exact (Whole.c_at u w p s b r j).trans (chan_eq u w p s hw b r _)

/-- The `dt` array is the kernel's. -/
theorem arr8 : G8 (F := Ideal) u w p s = KernelIdeal.Array.arr8 u w p s := by
  funext i
  obtain ⟨b, r, j, rfl⟩ : ∃ (b : Fin 3) (r : Fin 1024) (j : Fin 48), i = (ix3 b r j : S3x1024x48.Idx) := ⟨i 0, i 1, i 2, eq_ix3 i⟩
  unfold G8 k0_pay14 k0_pay15 k0_pay16
  rw [View.ld_unit_zero (S := S3x1024x5120) (by decide) _ u, View.ld_unit_zero (S := S5120) (by decide) _ w]
  exact (Whole.dt_at u w p s b r j).trans (chan_eq u w p s hw b r _)

/-- The codes array is the kernel's. -/
theorem arr9 : G9 (F := Ideal) u w p s = KernelIdeal.Array.arr9 u w := by
  funext i
  obtain ⟨b, r, j, rfl⟩ : ∃ (b : Fin 3) (r : Fin 1024) (j : Fin 5120), i = (ix3 b r j : S3x1024x5120.Idx) := ⟨i 0, i 1, i 2, eq_ix3 i⟩
  unfold G9 k0_pay15 k0_pay16
  rw [View.ld_unit_zero (S := S3x1024x5120) (by decide) _ u, View.ld_unit_zero (S := S5120) (by decide) _ w]
  refine (Whole.codes_at u w b r j).trans ?_
  rw [inv_eq u w hw]
  rfl

/-- The scale array is the kernel's. -/
theorem arr10 : G10 (F := Ideal) u w p s = KernelIdeal.Array.arr10 u w := by
  funext i
  obtain ⟨b, z, r, rfl⟩ : ∃ (b : Fin 3) (z : Fin 1) (r : Fin 1024), i = (ix3 b z r : S3x1x1024.Idx) := ⟨i 0, i 1, i 2, eq_ix3 i⟩
  obtain rfl : z = 0 := Subsingleton.elim _ _
  unfold G10 k0_pay14
  rw [View.ld_unit_zero (S := S3x1024x5120) (by decide) _ u, View.ld_unit_zero (S := S5120) (by decide) _ w]
  exact (Whole.scales_at u w b r).trans (scale_eq u w hw b r)

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_finite_weights
public import proofs.«01_k».proof.Proof.Gen.KernelIdeal.Value
public import proofs.«01_k».proof.Proof.Gen.ReferenceIdeal.Value
public import proofs.«01_k».proof.Proof.Agree
public import Idealize.ShloMosaic.Lib.Claim
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The precondition, read at each norm weight: its magnitude is at most the largest finite f32. -/
theorem finite_of_pre (m : (ℓ : Loc Cert.KernelIdeal.nD Cert.KernelIdeal.τ Cert.KernelIdeal.sig) → Buf (Elt Ideal) ℓ)
    (h : Cert.Pre_KernelIdeal_finite_weights m) (c : Dev Cert.KernelIdeal.nD) :
    Cert.Agree.Finite (m ((c.tc : Thread Cert.KernelIdeal.nD Cert.KernelIdeal.τ).loc Cert.KernelIdeal.main_arg1)) := by
  intro j
  have hj := congrFun (h c) (ix1 j)
  generalize m ((c.tc : Thread Cert.KernelIdeal.nD Cert.KernelIdeal.τ).loc Cert.KernelIdeal.main_arg1) = w at hj ⊢
  pointwise [Cert.Pre_finite_weights.fn] at hj
  have hd : ∀ b : Bool, BitVec.ofBool b = 1#1 → b = true := by decide
  exact of_decide_eq_true (hd _ hj)

/-- The kernel runs, ends quiescent and leaves its arguments unchanged. -/
theorem frame_kernel : Cert.quiescent_Kernel := fun m g _ => Cert.Kernel.Gen.frame m g

/-- The idealized kernel runs, ends quiescent and leaves its arguments unchanged. -/
theorem frame_kernelIdeal : Cert.quiescent_KernelIdeal := fun m g _ => Cert.KernelIdeal.Gen.frame m g

/-- The same from memories that meet the precondition. -/
theorem frame_kernelIdeal_pre : Cert.quiescent_KernelIdeal_pre_finite_weights := fun m g _ => Cert.KernelIdeal.Gen.frame m g

/-- The idealized reference runs, ends quiescent and leaves its arguments unchanged. -/
theorem frame_referenceIdeal : Cert.quiescent_ReferenceIdeal := fun m g _ => Cert.ReferenceIdeal.Gen.frame m g

/-- The same from memories that meet the precondition. -/
theorem frame_referenceIdeal_pre : Cert.quiescent_ReferenceIdeal_pre_finite_weights := fun m g _ => Cert.ReferenceIdeal.Gen.frame m g

/-- THE VALUE CLAIM: with finite norm weights the idealized kernel and the idealized reference end with the same seven
    results. -/
theorem algebraic : Cert.algebraic_KernelIdeal_ReferenceIdeal_pre_finite_weights := by
  pair_intro
  · run_from Cert.KernelIdeal.Gen.run_main m g
  · refine (θ_run _ _ _).mono (fun r h c => ?_) (Cert.ReferenceIdeal.Value.run m' g')
    have hw := finite_of_pre m hpre c
    obtain ⟨a0, a1, a2, a3⟩ := hagree c
    obtain ⟨h4, h5, h6, h7, h8, h9, h10, k0, k1, k2, k3⟩ := h c
    rw [a0, a1, a2, a3] at h4 h5 h6 h7 h8 h9 h10
    exact ⟨h4.trans ((Cert.Agree.arr4 _ _ _ _ hw).trans (Cert.KernelIdeal.Array.final4 m c).symm),
      h5.trans ((Cert.Agree.arr5 _ _ _ _ hw).trans (Cert.KernelIdeal.Array.final5 m c).symm),
      h6.trans ((Cert.Agree.arr6 _ _ _ _ hw).trans (Cert.KernelIdeal.Array.final6 m c).symm),
      h7.trans ((Cert.Agree.arr7 _ _ _ _ hw).trans (Cert.KernelIdeal.Array.final7 m c).symm),
      h8.trans ((Cert.Agree.arr8 _ _ _ _ hw).trans (Cert.KernelIdeal.Array.final8 m c).symm),
      h9.trans ((Cert.Agree.arr9 _ _ _ _ hw).trans (Cert.KernelIdeal.Array.final9 m c).symm),
      h10.trans ((Cert.Agree.arr10 _ _ _ _ hw).trans (Cert.KernelIdeal.Array.final10 m c).symm), k0, k1, k2, k3⟩

/-- Every claim of the certificate. -/
theorem claim : Cert.Claim := ⟨Cert.Kernel.Gen.facts, Cert.KernelIdeal.Gen.facts, Cert.ReferenceIdeal.Gen.facts, Cert.Pre_finite_weights.Gen.facts,
  frame_kernel, frame_kernelIdeal, frame_kernelIdeal_pre, frame_referenceIdeal, frame_referenceIdeal_pre, trivial, algebraic⟩

end Cert.Proof

end
